-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1x32768 : Shape := ⟨3, ![32, 1, 32768]⟩
abbrev S32x1x64x64 : Shape := ⟨4, ![32, 1, 64, 64]⟩
abbrev S32x8192x512 : Shape := ⟨3, ![32, 8192, 512]⟩
abbrev S32x8192 : Shape := ⟨2, ![32, 8192]⟩
abbrev S32x8192x64 : Shape := ⟨3, ![32, 8192, 64]⟩
abbrev S32x64x512 : Shape := ⟨3, ![32, 64, 512]⟩
abbrev S32x64x64 : Shape := ⟨3, ![32, 64, 64]⟩
abbrev S32x1x8192 : Shape := ⟨3, ![32, 1, 8192]⟩
abbrev S1x64x512 : Shape := ⟨3, ![1, 64, 512]⟩
abbrev S1x64x64 : Shape := ⟨3, ![1, 64, 64]⟩
abbrev S1x8192x512 : Shape := ⟨3, ![1, 8192, 512]⟩
abbrev S1x1x8192 : Shape := ⟨3, ![1, 1, 8192]⟩
abbrev S1x8192x64 : Shape := ⟨3, ![1, 8192, 64]⟩
abbrev S64x8192 : Shape := ⟨2, ![64, 8192]⟩
abbrev S64x512 : Shape := ⟨2, ![64, 512]⟩
abbrev S64x64 : Shape := ⟨2, ![64, 64]⟩
abbrev S64x128 : Shape := ⟨2, ![64, 128]⟩
abbrev S1x1024x512 : Shape := ⟨3, ![1, 1024, 512]⟩
abbrev S1024x512 : Shape := ⟨2, ![1024, 512]⟩
abbrev S64x1024 : Shape := ⟨2, ![64, 1024]⟩
abbrev S1x1024x64 : Shape := ⟨3, ![1, 1024, 64]⟩
abbrev S1024x64 : Shape := ⟨2, ![1024, 64]⟩
abbrev S1x1x1024 : Shape := ⟨3, ![1, 1, 1024]⟩
abbrev S1x1024 : Shape := ⟨2, ![1, 1024]⟩
abbrev S64 : Shape := ⟨1, ![64]⟩
abbrev S64x1 : Shape := ⟨2, ![64, 1]⟩

abbrev nBuf : Space → Nat
  | .hbm => 9
  | .vmem => 13
  | .smem => 0
  | _ => 0

abbrev bufTy : (tb : Table) → Fin (tcTables nBuf tb) → BufTy
  | .hbm, ⟨0, _⟩ => ⟨S32x1x32768, .bf16⟩
  | .hbm, ⟨1, _⟩ => ⟨S32x1x64x64, .bf16⟩
  | .hbm, ⟨2, _⟩ => ⟨S32x8192x512, .fp8e4m3⟩
  | .hbm, ⟨3, _⟩ => ⟨S32x8192, .f32⟩
  | .hbm, ⟨4, _⟩ => ⟨S32x8192x64, .bf16⟩
  | .hbm, ⟨5, _⟩ => ⟨S32x64x512, .bf16⟩
  | .hbm, ⟨6, _⟩ => ⟨S32x64x64, .bf16⟩
  | .hbm, ⟨7, _⟩ => ⟨S32x1x8192, .f32⟩
  | .hbm, ⟨8, _⟩ => ⟨S32x64x512, .bf16⟩
  | .local _ .vmem, ⟨0, _⟩ => ⟨S1x64x512, .bf16⟩
  | .local _ .vmem, ⟨1, _⟩ => ⟨S1x64x512, .bf16⟩
  | .local _ .vmem, ⟨2, _⟩ => ⟨S1x64x64, .bf16⟩
  | .local _ .vmem, ⟨3, _⟩ => ⟨S1x64x64, .bf16⟩
  | .local _ .vmem, ⟨4, _⟩ => ⟨S1x8192x512, .fp8e4m3⟩
  | .local _ .vmem, ⟨5, _⟩ => ⟨S1x8192x512, .fp8e4m3⟩
  | .local _ .vmem, ⟨6, _⟩ => ⟨S1x1x8192, .f32⟩
  | .local _ .vmem, ⟨7, _⟩ => ⟨S1x1x8192, .f32⟩
  | .local _ .vmem, ⟨8, _⟩ => ⟨S1x8192x64, .bf16⟩
  | .local _ .vmem, ⟨9, _⟩ => ⟨S1x8192x64, .bf16⟩
  | .local _ .vmem, ⟨10, _⟩ => ⟨S1x64x512, .bf16⟩
  | .local _ .vmem, ⟨11, _⟩ => ⟨S1x64x512, .bf16⟩
  | .local _ .vmem, ⟨12, _⟩ => ⟨S64x8192, .f32⟩
  | _, _ => ⟨S32x1x32768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8192x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8192x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S32x1x32768 : Shape := ⟨3, ![32, 1, 32768]⟩
abbrev S32x1x64x64 : Shape := ⟨4, ![32, 1, 64, 64]⟩
abbrev S32x8192x512 : Shape := ⟨3, ![32, 8192, 512]⟩
abbrev S32x8192 : Shape := ⟨2, ![32, 8192]⟩
abbrev S32x8192x64 : Shape := ⟨3, ![32, 8192, 64]⟩
abbrev S32x64x512 : Shape := ⟨3, ![32, 64, 512]⟩
abbrev S32x64x64 : Shape := ⟨3, ![32, 64, 64]⟩
abbrev S32x64x8192 : Shape := ⟨3, ![32, 64, 8192]⟩
abbrev S32x1x8192 : Shape := ⟨3, ![32, 1, 8192]⟩
abbrev S32x64 : Shape := ⟨2, ![32, 64]⟩
abbrev S32x64x1 : Shape := ⟨3, ![32, 64, 1]⟩

abbrev nBuf : Space → Nat
  | .hbm => 8
  | .vmem => 6
  | .smem => 0
  | _ => 0

abbrev bufTy : (tb : Table) → Fin (tcTables nBuf tb) → BufTy
  | .hbm, ⟨0, _⟩ => ⟨S32x1x32768, .bf16⟩
  | .hbm, ⟨1, _⟩ => ⟨S32x1x64x64, .bf16⟩
  | .hbm, ⟨2, _⟩ => ⟨S32x8192x512, .fp8e4m3⟩
  | .hbm, ⟨3, _⟩ => ⟨S32x8192, .f32⟩
  | .hbm, ⟨4, _⟩ => ⟨S32x8192x64, .bf16⟩
  | .hbm, ⟨5, _⟩ => ⟨S32x64x512, .bf16⟩
  | .hbm, ⟨6, _⟩ => ⟨S32x64x64, .bf16⟩
  | .hbm, ⟨7, _⟩ => ⟨S32x64x512, .bf16⟩
  | .local _ .vmem, ⟨0, _⟩ => ⟨S32x64x512, .bf16⟩
  | .local _ .vmem, ⟨1, _⟩ => ⟨S32x64x64, .bf16⟩
  | .local _ .vmem, ⟨2, _⟩ => ⟨S32x8192x512, .fp8e4m3⟩
  | .local _ .vmem, ⟨3, _⟩ => ⟨S32x8192, .f32⟩
  | .local _ .vmem, ⟨4, _⟩ => ⟨S32x8192x64, .bf16⟩
  | .local _ .vmem, ⟨5, _⟩ => ⟨S32x64x512, .bf16⟩
  | _, _ => ⟨S32x1x32768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S32x64x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x64x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x8192x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x8192x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x64x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Block.lean ====
/- What one grid point of the kernel computes, as a vector program in terms of a few named steps: the scores of one
   chunk of 1024 cached tokens, the lane-wise maximum and sum that a chunk adds to, the weights of a chunk, and the
   product of the weights with the chunk's codes. `flushed_eq` says that the block written back at a grid point is
   these steps applied to the point's input blocks. -/
module

public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline

variable {F : FTy → Type} [FloatOps F]
variable (m : (ℓ : Loc nD τ sig) → Buf (Elt F) ℓ)

/-- The 1024 rows of codes of chunk `k`. -/
def codesChunk (x : Vec F S1x8192x512 .fp8e4m3) (k : Fin 8) : Vec F S1x1024x512 .fp8e4m3 :=
  View.ld x (Rect.unit ![0, 1024 * k.val, 0] ![1, 1024, 512]
    (fun a => by have := k.isLt; match a with
      | ⟨0, _⟩ => show 0 + 1 ≤ 1; omega
      | ⟨1, _⟩ => show 1024 * k.val + 1024 ≤ 8192; omega
      | ⟨2, _⟩ => show 0 + 512 ≤ 512; omega))

/-- The 1024 rows of rotary keys of chunk `k`. -/
def ropeChunk (x : Vec F S1x8192x64 .bf16) (k : Fin 8) : Vec F S1x1024x64 .bf16 :=
  View.ld x (Rect.unit ![0, 1024 * k.val, 0] ![1, 1024, 64]
    (fun a => by have := k.isLt; match a with
      | ⟨0, _⟩ => show 0 + 1 ≤ 1; omega
      | ⟨1, _⟩ => show 1024 * k.val + 1024 ≤ 8192; omega
      | ⟨2, _⟩ => show 0 + 64 ≤ 64; omega))

/-- The 1024 scales of chunk `k`. -/
def scaleChunk (x : Vec F S1x1x8192 .f32) (k : Fin 8) : Vec F S1x1x1024 .f32 :=
  View.ld x (Rect.unit ![0, 0, 1024 * k.val] ![1, 1, 1024]
    (fun a => by have := k.isLt; match a with
      | ⟨0, _⟩ => show 0 + 1 ≤ 1; omega
      | ⟨1, _⟩ => show 0 + 1 ≤ 1; omega
      | ⟨2, _⟩ => show 1024 * k.val + 1024 ≤ 8192; omega))

/-- The scores of the 64 heads against one chunk of tokens: query · codes, times the token's scale, plus the rotary
    product, all times the softmax scale. -/
def scores (q : FVec F S1x64x512 .bf16) (qr : FVec F S1x64x64 .bf16) (codes : Vec F S1x1024x512 .fp8e4m3)
    (sc : Vec F S1x1x1024 .f32) (kr : Vec F S1x1024x64 .bf16) : FVec F S64x1024 .f32 :=
  mulf (addf
    (mulf
      (matmul dot_S64x512_S1024x512_S64x1024_1_1_0_0_n_n none (shapeCast S64x512 q shapeCasts_S1x64x512_S64x512)
        (shapeCast S1024x512 codes shapeCasts_S1x1024x512_S1024x512) (constant S64x1024 .f32 0x00000000#32))
      (broadcastTo S64x1024 (shapeCast S1x1024 sc shapeCasts_S1x1x1024_S1x1024) broadcasts_S1x1024_S64x1024))
    (matmul dot_S64x64_S1024x64_S64x1024_1_1_0_0_n_n none (shapeCast S64x64 qr shapeCasts_S1x64x64_S64x64)
      (shapeCast S1024x64 kr shapeCasts_S1x1024x64_S1024x64) (constant S64x1024 .f32 0x00000000#32)))
    (broadcast S64x1024 (Scalar.ofBits .f32 0x3D93CD3A#32))

/-- The lane-wise maximum `a`, taken on over the eight 128-lane slices of one chunk. -/
def laneMax (a : FVec F S64x128 .f32) (s : FVec F S64x1024 .f32) : FVec F S64x128 .f32 :=
  maximumf (maximumf (maximumf (maximumf (maximumf (maximumf (maximumf (maximumf a
    (extractStridedSlice S64x128 ![0, 0] s slices_S64x1024_o0_0_S64x128))
    (extractStridedSlice S64x128 ![0, 128] s slices_S64x1024_o0_128_S64x128))
    (extractStridedSlice S64x128 ![0, 256] s slices_S64x1024_o0_256_S64x128))
    (extractStridedSlice S64x128 ![0, 384] s slices_S64x1024_o0_384_S64x128))
    (extractStridedSlice S64x128 ![0, 512] s slices_S64x1024_o0_512_S64x128))
    (extractStridedSlice S64x128 ![0, 640] s slices_S64x1024_o0_640_S64x128))
    (extractStridedSlice S64x128 ![0, 768] s slices_S64x1024_o0_768_S64x128))
    (extractStridedSlice S64x128 ![0, 896] s slices_S64x1024_o0_896_S64x128)

/-- The lane-wise sum `a`, taken on over the eight 128-lane slices of one chunk. -/
def laneSum (a : FVec F S64x128 .f32) (p : FVec F S64x1024 .f32) : FVec F S64x128 .f32 :=
  addf (addf (addf (addf (addf (addf (addf (addf a
    (extractStridedSlice S64x128 ![0, 0] p slices_S64x1024_o0_0_S64x128))
    (extractStridedSlice S64x128 ![0, 128] p slices_S64x1024_o0_128_S64x128))
    (extractStridedSlice S64x128 ![0, 256] p slices_S64x1024_o0_256_S64x128))
    (extractStridedSlice S64x128 ![0, 384] p slices_S64x1024_o0_384_S64x128))
    (extractStridedSlice S64x128 ![0, 512] p slices_S64x1024_o0_512_S64x128))
    (extractStridedSlice S64x128 ![0, 640] p slices_S64x1024_o0_640_S64x128))
    (extractStridedSlice S64x128 ![0, 768] p slices_S64x1024_o0_768_S64x128))
    (extractStridedSlice S64x128 ![0, 896] p slices_S64x1024_o0_896_S64x128)

/-- The maximum of each head over the 128 lanes. -/
def rowMax (a : FVec F S64x128 .f32) : FVec F S64x1 .f32 :=
  shapeCast S64x1 (multiReduction .maximumf [1] S64 a 0xFF800000#32 reduces_S64x128_S64 (.inl rfl) rfl) shapeCasts_S64_S64x1

/-- The sum of each head over the 128 lanes. -/
def rowSum (a : FVec F S64x128 .f32) : FVec F S64x1 .f32 :=
  shapeCast S64x1 (multiReduction .add [1] S64 a 0x00000000#32 reduces_S64x128_S64 (.inl rfl) rfl) shapeCasts_S64_S64x1

/-- The softmax numerators of one chunk, from its stored scores and the heads' maxima. -/
def expo (mx : FVec F S64x1 .f32) (s : FVec F S64x1024 .f32) : FVec F S64x1024 .f32 :=
  exp (subf (shapeCast S64x1024 s shapeCasts_S64x1024_S64x1024) (broadcastTo S64x1024 mx broadcasts_S64x1_S64x1024))

/-- The accumulator `a` plus one chunk's weights times its codes. -/
def accum (a : FVec F S64x512 .f32) (p : FVec F S64x1024 .f32) (sc : Vec F S1x1x1024 .f32)
    (codes : Vec F S1x1024x512 .fp8e4m3) : FVec F S64x512 .f32 :=
  addf a (matmul dot_S64x1024_S1024x512_S64x512_1_0_0_1_n_n none
    (truncf .bf16 (mulf p (broadcastTo S64x1024 (shapeCast S1x1024 sc shapeCasts_S1x1x1024_S1x1024)
      broadcasts_S1x1024_S64x1024)) bitsLt_bf16_f32)
    (shapeCast S1024x512 codes shapeCasts_S1x1024x512_S1024x512) (constant S64x512 .f32 0x00000000#32))

/-- The maxima of the heads, from the scores of the eight chunks. -/
def maxima (s : Fin 8 → FVec F S64x1024 .f32) : FVec F S64x1 .f32 :=
  rowMax (laneMax (laneMax (laneMax (laneMax (laneMax (laneMax (laneMax (laneMax
    (broadcast S64x128 (Scalar.ofBits .f32 0xFF800000#32)) (s 0)) (s 1)) (s 2)) (s 3)) (s 4)) (s 5)) (s 6)) (s 7))

/-- The softmax denominators of the heads, from the numerators of the eight chunks. -/
def denoms (p : Fin 8 → FVec F S64x1024 .f32) : FVec F S64x1 .f32 :=
  rowSum (laneSum (laneSum (laneSum (laneSum (laneSum (laneSum (laneSum (laneSum
    (broadcast S64x128 (Scalar.ofBits .f32 0x00000000#32)) (p 0)) (p 1)) (p 2)) (p 3)) (p 4)) (p 5)) (p 6)) (p 7))

/-- The unnormalised outputs of the heads, from the numerators, scales and codes of the eight chunks. -/
def products (p : Fin 8 → FVec F S64x1024 .f32) (sc : Fin 8 → Vec F S1x1x1024 .f32)
    (codes : Fin 8 → Vec F S1x1024x512 .fp8e4m3) : FVec F S64x512 .f32 :=
  accum (accum (accum (accum (accum (accum (accum (accum
    (broadcast S64x512 (Scalar.ofBits .f32 0x00000000#32)) (p 0) (sc 0) (codes 0)) (p 1) (sc 1) (codes 1))
    (p 2) (sc 2) (codes 2)) (p 3) (sc 3) (codes 3)) (p 4) (sc 4) (codes 4)) (p 5) (sc 5) (codes 5))
    (p 6) (sc 6) (codes 6)) (p 7) (sc 7) (codes 7)

/-- The block of outputs, from the eight chunks' scores, scales and codes. -/
def normalised (s : Fin 8 → FVec F S64x1024 .f32) (sc : Fin 8 → Vec F S1x1x1024 .f32)
    (codes : Fin 8 → Vec F S1x1024x512 .fp8e4m3) : FVec F S1x64x512 .bf16 :=
  shapeCast S1x64x512 (truncf .bf16
    (divf (products (fun k => expo (maxima s) (s k)) sc codes)
      (broadcastTo S64x512 (denoms fun k => expo (maxima s) (s k)) broadcasts_S64x1_S64x512)) bitsLt_bf16_f32)
    shapeCasts_S64x512_S1x64x512

/-- What a grid point leaves in its output block, from its five input blocks. -/
def blockOut (x0 : Vec F S1x64x512 .bf16) (x1 : Vec F S1x64x64 .bf16) (x2 : Vec F S1x8192x512 .fp8e4m3)
    (x3 : Vec F S1x1x8192 .f32) (x4 : Vec F S1x8192x64 .bf16) : FVec F S1x64x512 .bf16 :=
  normalised (fun k => scores x0 x1 (codesChunk x2 k) (scaleChunk x3 k) (ropeChunk x4 k)) (scaleChunk x3) (codesChunk x2)

/-- What a grid point leaves in its output block is `blockOut` of its input blocks. -/
theorem after_eq (c : Dev nD) (t : Fin cfg0.N) :
    (dats m 0 c).after 5 t = blockOut (iblk m c 0 t) (iblk m c 1 t) (iblk m c 2 t) (iblk m c 3 t) (iblk m c 4 t) := by
  rw [after0_5]
  unfold outsAt0
  frame_open
  simp (disch := decide) only [↓ View.readCov_skip, ↓ View.readCov_cons_toLoadRect, ↓ View.readCov_fill]
  frame_out
  generalize (iblk m c 0 t : Vec F S1x64x512 .bf16) = x0
  generalize (iblk m c 1 t : Vec F S1x64x64 .bf16) = x1
  generalize (iblk m c 2 t : Vec F S1x8192x512 .fp8e4m3) = x2
  generalize (iblk m c 3 t : Vec F S1x1x8192 .f32) = x3
  generalize (iblk m c 4 t : Vec F S1x8192x64 .bf16) = x4
  rfl

end Cert.KernelIdeal.Value

end
-- ==== Proof.Attention.lean ====
/- Attention of one query head over 8192 cached tokens, over the extended reals: the mathematics that both programs
   compute, and the three ways of going through the tokens that the kernel uses (a chunk of 1024, a slice of 128 in it,
   a lane in that). -/
module

public import Idealize.ShloMosaic.PureOps.Ideal
public import Idealize.ShloMosaic.Lib.Pointwise

@[expose] public section

noncomputable section

namespace Cert.Attention

open Idealize.ShloMosaic

/-- The score of one head against one token: query · code, times the token's scale, plus the rotary product, all times
    the softmax scale (an f32 constant). -/
def score (q : Fin 512 → EReal) (qr : Fin 64 → EReal) (code : Fin 512 → EReal) (sc : EReal) (kr : Fin 64 → EReal) : EReal :=
  ((∑ c : Fin 512, q c * code c) * sc + ∑ r : Fin 64, qr r * kr r) * Ideal.ofBits .f32 0x3D93CD3A#32

/-- The greatest of the scores. -/
def top (s : Fin 8192 → EReal) : EReal := Finset.univ.sup s

/-- The softmax numerator of token `t`. -/
def weight (s : Fin 8192 → EReal) (t : Fin 8192) : EReal := Ideal.exp (s t - top s)

/-- One output component of one head: the weighted sum of the dequantised codes `code t * sc t` over the sum of the weights. -/
def attend (s : Fin 8192 → EReal) (sc : Fin 8192 → EReal) (code : Fin 8192 → EReal) : EReal :=
  Ideal.div (∑ t : Fin 8192, weight s t * sc t * code t) (∑ t : Fin 8192, weight s t)

/-- The attention of every head of every batch row: component `c` of head `h` of row `b`, from the queries, the rotary
    queries, the codes, their scales and the rotary keys. -/
def attention (q : Vec Ideal ⟨3, ![32, 64, 512]⟩ .bf16) (qr : Vec Ideal ⟨3, ![32, 64, 64]⟩ .bf16)
    (codes : Vec Ideal ⟨3, ![32, 8192, 512]⟩ .fp8e4m3) (sc : Vec Ideal ⟨2, ![32, 8192]⟩ .f32)
    (kr : Vec Ideal ⟨3, ![32, 8192, 64]⟩ .bf16) : Vec Ideal ⟨3, ![32, 64, 512]⟩ .bf16 := fun j =>
  attend
    (fun t => score (fun i => q (ix3 (j 0) (j 1) i)) (fun r => qr (ix3 (j 0) (j 1) r)) (fun i => codes (ix3 (j 0) t i))
      (sc (ix2 (j 0) t)) (fun r => kr (ix3 (j 0) t r)))
    (fun t => sc (ix2 (j 0) t)) (fun t => codes (ix3 (j 0) t (j 2)))

/-! ## Tokens by chunk, and by slice and lane -/

/-- Token `u` of chunk `k`. -/
def tok (k : Fin 8) (u : Fin 1024) : Fin 8192 := ⟨1024 * k.val + u.val, by have := k.isLt; have := u.isLt; omega⟩

/-- Lane `l` of slice `j` of a chunk. -/
def lane (j : Fin 8) (l : Fin 128) : Fin 1024 := ⟨128 * j.val + l.val, by have := j.isLt; have := l.isLt; omega⟩

/-- Every token is in a chunk. -/
theorem exists_tok (t : Fin 8192) : ∃ k u, t = tok k u :=
  ⟨⟨t.val / 1024, by have := t.isLt; omega⟩, ⟨t.val % 1024, by omega⟩, Fin.ext (by simp only [tok]; omega)⟩

/-- Every token of a chunk is a lane of a slice. -/
theorem exists_lane (u : Fin 1024) : ∃ j l, u = lane j l :=
  ⟨⟨u.val / 128, by have := u.isLt; omega⟩, ⟨u.val % 128, by omega⟩, Fin.ext (by simp only [lane]; omega)⟩

/-- A sum over the tokens, chunk by chunk. -/
theorem sum_tok (f : Fin 8192 → EReal) : ∑ t, f t = ∑ k : Fin 8, ∑ u : Fin 1024, f (tok k u) := by
  rw [← (finProdFinEquiv : Fin 8 × Fin 1024 ≃ Fin (8 * 1024)).sum_comp f, Fintype.sum_prod_type]
  refine Finset.sum_congr rfl fun k _ => Finset.sum_congr rfl fun u _ => congrArg f (Fin.ext ?_)
  simp only [tok, finProdFinEquiv_apply_val]; omega

/-- A sum over a chunk, slice by slice. -/
theorem sum_lane (f : Fin 1024 → EReal) : ∑ u, f u = ∑ j : Fin 8, ∑ l : Fin 128, f (lane j l) := by
  rw [← (finProdFinEquiv : Fin 8 × Fin 128 ≃ Fin (8 * 128)).sum_comp f, Fintype.sum_prod_type]
  refine Finset.sum_congr rfl fun j _ => Finset.sum_congr rfl fun l _ => congrArg f (Fin.ext ?_)
  simp only [lane, finProdFinEquiv_apply_val]; omega

/-- A sum over the tokens, lane by lane. -/
theorem sum_by_lane (f : Fin 8192 → EReal) :
    ∑ l : Fin 128, ∑ k : Fin 8, ∑ j : Fin 8, f (tok k (lane j l)) = ∑ t, f t := by
  rw [sum_tok, Finset.sum_comm]
  refine Finset.sum_congr rfl fun k _ => ?_
  rw [sum_lane, Finset.sum_comm]

/-- The greatest score, lane by lane: of each lane the greatest `g l` over chunks and slices, then the greatest of these. -/
theorem sup_by_lane (s : Fin 8192 → EReal) (g : Fin 128 → EReal)
    (hg : ∀ l a, g l ≤ a ↔ ∀ k j : Fin 8, s (tok k (lane j l)) ≤ a) : Finset.univ.sup g = top s := by
  refine eq_of_forall_ge_iff fun a => ?_
  simp only [top, Finset.sup_le_iff, Finset.mem_univ, true_implies, hg]
  refine ⟨fun h t => ?_, fun h l k j => h _⟩
  obtain ⟨k, u, rfl⟩ := exists_tok t
  obtain ⟨j, l, rfl⟩ := exists_lane u
  exact h l k j

/-- A property of all eight chunks, as the conjunction a running maximum leaves. -/
theorem forall_fin_eight (P : Fin 8 → Prop) :
    (∀ k, P k) ↔ ((((((P 0 ∧ P 1) ∧ P 2) ∧ P 3) ∧ P 4) ∧ P 5) ∧ P 6) ∧ P 7 := by
  simp only [Fin.forall_fin_succ, and_assoc, IsEmpty.forall_iff, and_true]
  rfl

/-- The f32 pattern of minus infinity is the least extended real. -/
theorem ofBits_neg_inf : Ideal.ofBits .f32 0xFF800000#32 = ⊥ := by
  simp [Ideal.ofBits, Ideal.ieee]

/-- A maximum folded from the least extended real is the supremum. -/
theorem fold_max {n : Nat} (f : Fin n → EReal) : Finset.univ.fold max ⊥ f = Finset.univ.sup f := rfl

end Cert.Attention

end
-- ==== Proof.BlockValue.lean ====
/- The kernel's steps over the extended reals, read at an index: a head `h` of one grid point and one output component
   is `Attention.attend` of that head's scores. -/
module

public import proofs.«01_k».proof.Proof.Block
public import proofs.«01_k».proof.Proof.Attention
public import Idealize.ShloMosaic.Lib.Pointwise

@[expose] public section

set_option maxRecDepth 16384

noncomputable section

namespace Cert.KernelIdeal.Value

open Cert.KernelIdeal Cert.KernelIdeal.Gen Idealize.ShloMosaic Idealize.ShloMosaic.TcCoe Idealize.SL.Sem
open Cert.Attention

/-- A chunk's score at head `h` and its token `u`. -/
theorem scores_apply (q : FVec Ideal S1x64x512 .bf16) (qr : FVec Ideal S1x64x64 .bf16) (codes : Vec Ideal S1x1024x512 .fp8e4m3)
    (sc : Vec Ideal S1x1x1024 .f32) (kr : Vec Ideal S1x1024x64 .bf16) (h : Fin 64) (u : Fin 1024) :
    scores q qr codes sc kr (ix2 h u) = score (fun c => q (ix3 0 h c)) (fun r => qr (ix3 0 h r))
      (fun c => codes (ix3 0 u c)) (sc (ix3 0 0 u)) (fun r => kr (ix3 0 u r)) := by
  unfold score
  pointwise [scores]

/-- The lane-wise maximum after one chunk is at most `a` when it was before and the chunk's scores in that lane are. -/
theorem laneMax_le (b : FVec Ideal S64x128 .f32) (s : FVec Ideal S64x1024 .f32) (h : Fin 64) (l : Fin 128) (a : EReal) :
    laneMax b s (ix2 h l) ≤ a ↔ b (ix2 h l) ≤ a ∧ ∀ j : Fin 8, s (ix2 h (lane j l)) ≤ a := by
  pointwise [laneMax]
  simp only [max_le_iff, Fin.forall_fin_succ, lane, and_assoc, Fin.val_zero, Fin.val_succ, Nat.mul_zero, Nat.zero_add,
    IsEmpty.forall_iff, and_true]

/-- The lane-wise sum after one chunk. -/
theorem laneSum_apply (b : FVec Ideal S64x128 .f32) (p : FVec Ideal S64x1024 .f32) (h : Fin 64) (l : Fin 128) :
    laneSum b p (ix2 h l) = b (ix2 h l) + ∑ j : Fin 8, p (ix2 h (lane j l)) := by
  pointwise [laneSum]
  simp only [Fin.sum_univ_eight, ← add_assoc]
  rw [show lane 0 l = ⟨l.val, by have := l.isLt; omega⟩ from Fin.ext (Nat.zero_add _)]
  rfl

/-- The maximum over the lanes. -/
theorem rowMax_apply (b : FVec Ideal S64x128 .f32) (h : Fin 64) :
    rowMax b (ix2 h 0) = Finset.univ.sup fun l : Fin 128 => b (ix2 h l) := by
  pointwise [rowMax]
  rw [ofBits_neg_inf, fold_max]

/-- The sum over the lanes. -/
theorem rowSum_apply (b : FVec Ideal S64x128 .f32) (h : Fin 64) :
    rowSum b (ix2 h 0) = ∑ l : Fin 128, b (ix2 h l) := by
  pointwise [rowSum]

/-- A chunk's numerator at head `h` and its token `u`. -/
theorem expo_apply (mx : FVec Ideal S64x1 .f32) (s : FVec Ideal S64x1024 .f32) (h : Fin 64) (u : Fin 1024) :
    expo mx s (ix2 h u) = Ideal.exp (s (ix2 h u) - mx (ix2 h 0)) := by
  pointwise [expo]

/-- The accumulator after one chunk. -/
theorem accum_apply (b : FVec Ideal S64x512 .f32) (p : FVec Ideal S64x1024 .f32) (sc : Vec Ideal S1x1x1024 .f32)
    (codes : Vec Ideal S1x1024x512 .fp8e4m3) (h : Fin 64) (c : Fin 512) :
    accum b p sc codes (ix2 h c)
      = b (ix2 h c) + ∑ u : Fin 1024, p (ix2 h u) * sc (ix3 0 0 u) * codes (ix3 0 u c) := by
  pointwise [accum]

/-- Row `u` of the codes of chunk `k` is the row of token `tok k u`; -/
theorem codesChunk_apply (x : Vec Ideal S1x8192x512 .fp8e4m3) (k : Fin 8) (u : Fin 1024) (c : Fin 512) :
    codesChunk x k (ix3 0 u c) = x (ix3 0 (tok k u) c) := by
  pointwise [codesChunk]
  rfl

/-- so are the rotary keys; -/
theorem ropeChunk_apply (x : Vec Ideal S1x8192x64 .bf16) (k : Fin 8) (u : Fin 1024) (c : Fin 64) :
    ropeChunk x k (ix3 0 u c) = x (ix3 0 (tok k u) c) := by
  pointwise [ropeChunk]
  rfl

/-- and so are the scales. -/
theorem scaleChunk_apply (x : Vec Ideal S1x1x8192 .f32) (k : Fin 8) (u : Fin 1024) :
    scaleChunk x k (ix3 0 0 u) = x (ix3 0 0 (tok k u)) := by
  pointwise [scaleChunk]
  rfl

/-- The maximum of a head is the greatest of its scores. -/
theorem maxima_apply (s : Fin 8 → FVec Ideal S64x1024 .f32) (h : Fin 64) (f : Fin 8192 → EReal)
    (hs : ∀ k u, s k (ix2 h u) = f (tok k u)) : maxima s (ix2 h 0) = top f := by
  unfold maxima
  rw [rowMax_apply]
  refine sup_by_lane f _ fun l a => ?_
  have hb : (broadcast S64x128 (Scalar.ofBits .f32 0xFF800000#32) : FVec Ideal S64x128 .f32) (ix2 h l) = ⊥ := ofBits_neg_inf
  simp only [laneMax_le, hs, hb, bot_le, true_and]
  exact (forall_fin_eight fun k => ∀ j : Fin 8, f (tok k (lane j l)) ≤ a).symm

/-- The denominator of a head is the sum of its numerators. -/
theorem denoms_apply (p : Fin 8 → FVec Ideal S64x1024 .f32) (h : Fin 64) (f : Fin 8192 → EReal)
    (hp : ∀ k u, p k (ix2 h u) = f (tok k u)) : denoms p (ix2 h 0) = ∑ t, f t := by
  have hb (l : Fin 128) : (broadcast S64x128 (Scalar.ofBits .f32 0x00000000#32) : FVec Ideal S64x128 .f32) (ix2 h l) = 0 :=
    Ideal.ofBits_zero_f32
  unfold denoms
  simp only [rowSum_apply, laneSum_apply, hb, hp, zero_add]
  rw [← sum_by_lane]
  simp only [Fin.sum_univ_eight (f := fun k => ∑ j : Fin 8, f (tok k (lane j _)))]

/-- The unnormalised output of a head is the sum over the tokens of numerator, scale and code. -/
theorem products_apply (p : Fin 8 → FVec Ideal S64x1024 .f32) (sc : Fin 8 → Vec Ideal S1x1x1024 .f32)
    (codes : Fin 8 → Vec Ideal S1x1024x512 .fp8e4m3) (h : Fin 64) (c : Fin 512) (f g d : Fin 8192 → EReal)
    (hp : ∀ k u, p k (ix2 h u) = f (tok k u)) (hsc : ∀ k u, sc k (ix3 0 0 u) = g (tok k u))
    (hc : ∀ k u, codes k (ix3 0 u c) = d (tok k u)) :
    products p sc codes (ix2 h c) = ∑ t, f t * g t * d t := by
  have hb : (broadcast S64x512 (Scalar.ofBits .f32 0x00000000#32) : FVec Ideal S64x512 .f32) (ix2 h c) = 0 :=
    Ideal.ofBits_zero_f32
  unfold products
  simp only [accum_apply, hb, hp, hsc, hc, zero_add]
  rw [sum_tok, Fin.sum_univ_eight]

/-- The steps together: one component of a head's output is the attention of that head's scores. -/
theorem normalised_apply (s : Fin 8 → FVec Ideal S64x1024 .f32) (sc : Fin 8 → Vec Ideal S1x1x1024 .f32)
    (codes : Fin 8 → Vec Ideal S1x1024x512 .fp8e4m3) (h : Fin 64) (c : Fin 512) (f g d : Fin 8192 → EReal)
    (hs : ∀ k u, s k (ix2 h u) = f (tok k u)) (hsc : ∀ k u, sc k (ix3 0 0 u) = g (tok k u))
    (hc : ∀ k u, codes k (ix3 0 u c) = d (tok k u)) :
    normalised s sc codes (ix3 0 h c) = attend f g d := by
  have hw : ∀ k u, expo (maxima s) (s k) (ix2 h u) = weight f (tok k u) := fun k u => by
    rw [expo_apply, maxima_apply s h f hs, hs, weight]
  have hn : normalised s sc codes (ix3 0 h c)
      = Ideal.div (products (fun k => expo (maxima s) (s k)) sc codes (ix2 h c))
          (denoms (fun k => expo (maxima s) (s k)) (ix2 h 0)) := by
    pointwise [normalised]
  rw [hn, products_apply _ _ _ h c (weight f) g d hw hsc hc, denoms_apply _ h (weight f) hw, attend]

/-- One component of what a grid point leaves in its output block, from its five input blocks. -/
theorem blockOut_apply (x0 : Vec Ideal S1x64x512 .bf16) (x1 : Vec Ideal S1x64x64 .bf16) (x2 : Vec Ideal S1x8192x512 .fp8e4m3)
    (x3 : Vec Ideal S1x1x8192 .f32) (x4 : Vec Ideal S1x8192x64 .bf16) (h : Fin 64) (c : Fin 512) :
    blockOut x0 x1 x2 x3 x4 (ix3 0 h c)
      = attend
          (fun t => score (fun i => x0 (ix3 0 h i)) (fun r => x1 (ix3 0 h r)) (fun i => x2 (ix3 0 t i)) (x3 (ix3 0 0 t))
            (fun r => x4 (ix3 0 t r)))
          (fun t => x3 (ix3 0 0 t)) (fun t => x2 (ix3 0 t c)) := by
  refine normalised_apply _ _ _ h c _ _ _ (fun k u => ?_) (fun k u => scaleChunk_apply x3 k u)
    (fun k u => codesChunk_apply x2 k u c)
  simp only [scores_apply, codesChunk_apply, ropeChunk_apply, scaleChunk_apply]

end Cert.KernelIdeal.Value

end
-- ==== Proof.KernelArray.lean ====
/- The array that the kernel returns, over the extended reals: component `c` of head `h` of batch row `b` is the attention
   of that head over the row's cached tokens. -/
module

public import proofs.«01_k».proof.Proof.BlockValue

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline
open Cert.Attention

variable (m : (ℓ : Loc nD τ sig) → Buf (Elt Ideal) ℓ) (ρ : Dev nD → PrngReg)

/-- The queries as the kernel reads them: the first argument, reshaped by the host. -/
theorem V_queries (c : Dev nD) : V m c main_v0
    = shapeCast S32x64x512 (m ((c : Thread nD τ).loc main_arg0)) shapeCasts_S32x1x32768_S32x64x512 := by
  unfold_abbrev_sides
  after_results
  rfl

/-- The rotary queries as the kernel reads them. -/
theorem V_rope (c : Dev nD) : V m c main_v1
    = shapeCast S32x64x64 (m ((c : Thread nD τ).loc main_arg1)) shapeCasts_S32x1x64x64_S32x64x64 := by
  unfold_abbrev_sides
  after_results
  rfl

/-- The scales as the kernel reads them. -/
theorem V_scales (c : Dev nD) : V m c main_v2
    = shapeCast S32x1x8192 (m ((c : Thread nD τ).loc main_arg3)) shapeCasts_S32x8192_S32x1x8192 := by
  unfold_abbrev_sides
  after_results
  rfl

/-- Scale `u` of row `b` in the reshaped scales. -/
theorem scales_apply (x : Vec Ideal S32x8192 .f32) (b : Fin 32) (u : Fin 8192) :
    shapeCast S32x1x8192 x shapeCasts_S32x8192_S32x1x8192 (ix3 b 0 u) = x (ix2 b u) := by
  pointwise

/-- Every window's block at grid point `t` is batch row `t` of its array. -/
theorem index_eq : ∀ t : Fin grid0.N, win0_0.index t = ![t.val, 0, 0] ∧ win0_1.index t = ![t.val, 0, 0]
    ∧ win0_2.index t = ![t.val, 0, 0] ∧ win0_3.index t = ![t.val, 0, 0] ∧ win0_4.index t = ![t.val, 0, 0]
    ∧ win0_5.index t = ![t.val, 0, 0] := by decide +kernel

/-- The attention of the arguments as they were at launch. -/
abbrev result (c : Dev nD) : Vec Ideal S32x64x512 .bf16 :=
  attention (shapeCast S32x64x512 (m ((c : Thread nD τ).loc main_arg0)) shapeCasts_S32x1x32768_S32x64x512)
    (shapeCast S32x64x64 (m ((c : Thread nD τ).loc main_arg1)) shapeCasts_S32x1x64x64_S32x64x64)
    (m ((c : Thread nD τ).loc main_arg2)) (m ((c : Thread nD τ).loc main_arg3)) (m ((c : Thread nD τ).loc main_arg4))

/-- What grid point `t` leaves in its output block is row `t` of the attention. -/
theorem block_eq (c : Dev nD) (t : Fin grid0.N) (b : Fin 32) (hb : b.val = t.val) (h : Fin 64) (d : Fin 512) :
    blockOut (iblk m c 0 t) (iblk m c 1 t) (iblk m c 2 t) (iblk m c 3 t) (iblk m c 4 t) (ix3 0 h d)
      = result m c (ix3 b h d) := by
  rw [blockOut_apply]
  unfold result attention
  obtain ⟨i0, i1, i2, i3, i4, -⟩ := index_eq t
  have h0 : ∀ i, (iblk m c 0 t : Vec Ideal S1x64x512 .bf16) (ix3 0 h i)
      = shapeCast S32x64x512 (m ((c : Thread nD τ).loc main_arg0)) shapeCasts_S32x1x32768_S32x64x512 (ix3 b h i) := fun i => by
    rw [← V_queries]
    blk_ext [iblk, i0]
  have h1 : ∀ i, (iblk m c 1 t : Vec Ideal S1x64x64 .bf16) (ix3 0 h i)
      = shapeCast S32x64x64 (m ((c : Thread nD τ).loc main_arg1)) shapeCasts_S32x1x64x64_S32x64x64 (ix3 b h i) := fun i => by
    rw [← V_rope]
    blk_ext [iblk, i1]
  have h2 : ∀ u i, (iblk m c 2 t : Vec Ideal S1x8192x512 .fp8e4m3) (ix3 0 u i)
      = m ((c : Thread nD τ).loc main_arg2) (ix3 b u i) := fun u i => by
    rw [← V_main_arg2 m c]
    blk_ext [iblk, i2]
  have h3 : ∀ u, (iblk m c 3 t : Vec Ideal S1x1x8192 .f32) (ix3 0 0 u)
      = m ((c : Thread nD τ).loc main_arg3) (ix2 b u) := fun u => by
    have e : (iblk m c 3 t : Vec Ideal S1x1x8192 .f32) (ix3 0 0 u) = V m c main_v2 (ix3 b 0 u) := by
      blk_ext [iblk, i3]
    rw [e, V_scales, scales_apply]
  have h4 : ∀ u i, (iblk m c 4 t : Vec Ideal S1x8192x64 .bf16) (ix3 0 u i)
      = m ((c : Thread nD τ).loc main_arg4) (ix3 b u i) := fun u i => by
    rw [← V_main_arg4 m c]
    blk_ext [iblk, i4]
  simp only [h0, h1, h2, h3, h4]
  rfl

/-- The kernel's result array is the attention of its arguments. -/
theorem arr_eq (c : Dev nD) : (dats m 0 c).arrAt 5 cfg0.N = result m c := by
  refine (dats m 0 c).arrAt_eq_of_covers 5 _ (by decide +kernel) fun t hf y => ?_
  blk_simp
  rw [after_eq]
  have hy : (y : S1x64x512.Idx) = ix3 0 (y 1) (y 2) := by blk_ext
  refine (congrArg _ hy).trans ((block_eq m c t ⟨t.val, t.isLt⟩ rfl (y 1) (y 2)).trans (congrArg _ ?_))
  obtain ⟨-, -, -, -, -, i5⟩ := index_eq t
  blk_ext [i5]

end Cert.KernelIdeal.Value

end
-- ==== Proof.ReferenceArray.lean ====
/- The array that the reference returns, over the extended reals: the same attention. -/
module

public import proofs.«01_k».proof.Proof.Gen.ReferenceIdeal.Value
public import proofs.«01_k».proof.Proof.Attention
public import Idealize.ShloMosaic.Lib.Pipeline.ValueKit

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Idealize.ShloMosaic.Pipeline
open Cert.Attention

variable (m : (ℓ : Loc nD τ sig) → Buf (Elt Ideal) ℓ)

/-- What the reference computes from its five arrays is the attention. -/
theorem body_eq (codes : Vec Ideal S32x8192x512 .fp8e4m3) (q : Vec Ideal S32x64x512 .bf16) (qr : Vec Ideal S32x64x64 .bf16)
    (kr : Vec Ideal S32x8192x64 .bf16) (sc : Vec Ideal S32x8192 .f32) :
    k0_pay1 codes q qr kr sc = attention q qr codes sc kr := by
  funext j
  obtain ⟨b, h, d, rfl⟩ : ∃ b h d, j = ix3 b h d := ⟨j 0, j 1, j 2, by blk_ext⟩
  unfold attention attend weight top score
  pointwise [k0_pay1]
  simp only [ofBits_neg_inf, fold_max]

/-- The queries as the reference reads them: the first argument, reshaped by the host. -/
theorem V_queries (c : Dev nD) : V m c main_v0
    = shapeCast S32x64x512 (m ((c : Thread nD τ).loc main_arg0)) shapeCasts_S32x1x32768_S32x64x512 := by
  unfold_abbrev_sides
  after_results
  rfl

/-- The rotary queries as the reference reads them. -/
theorem V_rope (c : Dev nD) : V m c main_v1
    = shapeCast S32x64x64 (m ((c : Thread nD τ).loc main_arg1)) shapeCasts_S32x1x64x64_S32x64x64 := by
  unfold_abbrev_sides
  after_results
  rfl

/-- The one grid point's blocks are whole arrays. -/
theorem index_eq : ∀ t : Fin grid0.N, win0_0.index t = ![0, 0, 0] ∧ win0_1.index t = ![0, 0, 0]
    ∧ win0_2.index t = ![0, 0, 0] ∧ win0_3.index t = ![0, 0] ∧ win0_4.index t = ![0, 0, 0]
    ∧ win0_5.index t = ![0, 0, 0] := by decide +kernel

/-- The attention of the arguments as they were at launch. -/
abbrev result (c : Dev nD) : Vec Ideal S32x64x512 .bf16 :=
  attention (shapeCast S32x64x512 (m ((c : Thread nD τ).loc main_arg0)) shapeCasts_S32x1x32768_S32x64x512)
    (shapeCast S32x64x64 (m ((c : Thread nD τ).loc main_arg1)) shapeCasts_S32x1x64x64_S32x64x64)
    (m ((c : Thread nD τ).loc main_arg2)) (m ((c : Thread nD τ).loc main_arg3)) (m ((c : Thread nD τ).loc main_arg4))

/-- The reference's result array is the attention of its arguments. -/
theorem arr_eq (c : Dev nD) : (dats m 0 c).arrAt 5 cfg0.N = result m c := by
  refine (dats m 0 c).arrAt_eq_of_covers 5 _ (by decide +kernel) fun t hf y => ?_
  blk_simp
  rw [after0_5]
  frame_out
  rw [body_eq]
  obtain ⟨i0, i1, i2, i3, i4, i5⟩ := index_eq t
  have h0 : (iblk m c 0 t : Vec Ideal S32x64x512 .bf16) = V m c main_v0 := by funext j; blk_ext [iblk, i0]
  have h1 : (iblk m c 1 t : Vec Ideal S32x64x64 .bf16) = V m c main_v1 := by funext j; blk_ext [iblk, i1]
  have h2 : (iblk m c 2 t : Vec Ideal S32x8192x512 .fp8e4m3) = V m c main_arg2 := by funext j; blk_ext [iblk, i2]
  have h3 : (iblk m c 3 t : Vec Ideal S32x8192 .f32) = V m c main_arg3 := by funext j; blk_ext [iblk, i3]
  have h4 : (iblk m c 4 t : Vec Ideal S32x8192x64 .bf16) = V m c main_arg4 := by funext j; blk_ext [iblk, i4]
  rw [h0, h1, h2, h3, h4, V_queries, V_rope, V_main_arg2, V_main_arg3, V_main_arg4]
  refine congrArg (result m c) ?_
  blk_ext [i5]

end Cert.ReferenceIdeal.Value

end
-- ==== Proof.lean ====
/- The five claims: the kernel, its ideal program and the ideal reference run without fault and leave their arguments
   unchanged; the ideal program is the kernel over the extended reals; and kernel and reference return the same array
   over the extended reals. The last is proved in these modules: `Proof.Attention` states the mathematics, `Proof.Block`,
   `Proof.BlockValue` and `Proof.KernelArray` show that the kernel computes it, `Proof.ReferenceArray` that the reference
   does. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.KernelArray
public import proofs.«01_k».proof.Proof.ReferenceArray
public import Idealize.ShloMosaic.Adequacy
public import Idealize.ShloMosaic.Init

@[expose] public section

noncomputable section

namespace Cert.Proof

open Idealize.ShloMosaic Idealize.ShloMosaic.TcCoe Idealize.SL.Sem

/-- The kernel runs from `m` to the attention of its arguments, the arguments unchanged. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal)))
      ⟨m, fun _ => 0, g⟩ fun r => ∀ c : Dev Cert.KernelIdeal.nD,
      r.2.mem ((c.tc : Thread Cert.KernelIdeal.nD Cert.KernelIdeal.τ).loc Cert.KernelIdeal.main_v3) = Cert.KernelIdeal.Value.result m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4) :=
  (θ_run _ _ _).mono (fun _ h c => ⟨(h c).1.trans (Cert.KernelIdeal.Value.arr_eq m c), (h c).2⟩)
    (Cert.KernelIdeal.Value.run_blocks m g)

/-- From memories that agree on the arguments, kernel and reference end with equal results. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨Cert.KernelIdeal.Value.result m, kernel_run m g, ?_⟩
  refine (θ_run _ _ _).mono (fun _ h c => ⟨(h c).1.trans ((Cert.ReferenceIdeal.Value.arr_eq m' c).trans ?_), (h c).2⟩)
    (Cert.ReferenceIdeal.Value.run_blocks m' g')
  obtain ⟨h0, h1, h2, h3, h4⟩ := hagree c
  unfold Cert.ReferenceIdeal.Value.result Cert.KernelIdeal.Value.result
  rw [h0, h1, h2, h3, h4]

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
